-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_span_not_zero [hPre_span_not_zero : Cert.Pre_span_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_span_not_zero.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_span_not_zero [hPre_span_not_zero : Cert.Pre_span_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_span_not_zero.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_span_not_zero [hKernelIdeal : Cert.KernelIdeal.Facts] [hPre_span_not_zero : Cert.Pre_span_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_span_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_span_not_zero [hReferenceIdeal : Cert.ReferenceIdeal.Facts] [hPre_span_not_zero : Cert.Pre_span_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_span_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_span_not_zero [hKernelIdeal : Cert.KernelIdeal.Facts] [hReferenceIdeal : Cert.ReferenceIdeal.Facts] [hPre_span_not_zero : Cert.Pre_span_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_span_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_span_not_zero : Cert.Pre_span_not_zero.Facts),
    quiescent_Kernel (hKernel := hKernel)
    ∧ quiescent_KernelIdeal (hKernelIdeal := hKernelIdeal)
    ∧ quiescent_KernelIdeal_pre_span_not_zero (hKernelIdeal := hKernelIdeal) (hPre_span_not_zero := hPre_span_not_zero)
    ∧ quiescent_ReferenceIdeal (hReferenceIdeal := hReferenceIdeal)
    ∧ quiescent_ReferenceIdeal_pre_span_not_zero (hReferenceIdeal := hReferenceIdeal) (hPre_span_not_zero := hPre_span_not_zero)
    ∧ preserves_Kernel_KernelIdeal
    ∧ algebraic_KernelIdeal_ReferenceIdeal_pre_span_not_zero (hKernelIdeal := hKernelIdeal) (hReferenceIdeal := hReferenceIdeal) (hPre_span_not_zero := hPre_span_not_zero)
-- ==== Pre_span_not_zero.lean ====
abbrev S8000000x4 : Shape := ⟨2, ![8000000, 4]⟩
abbrev S1x1 : Shape := ⟨2, ![1, 1]⟩
abbrev S_ : Shape := ⟨0, ![]⟩

class Facts : Prop where
  slices_S8000000x4_S1x1_7999999_0 : S8000000x4.Slices ![7999999, 0] S1x1
  shapeCasts_S1x1_S_ : S1x1.ShapeCasts S_
  slices_S8000000x4_S1x1_0_0 : S8000000x4.Slices ![0, 0] S1x1

variable [Facts]

def fn {F : FTy → Type} [FloatOps F] (main_arg0 : FVec F S8000000x4 .f32) : IVec S_ 1 :=
  let main_v0 : FVec F S1x1 .f32 := (extractStridedSlice S1x1 ![7999999, 0] · slices_S8000000x4_S1x1_7999999_0) main_arg0
  let main_v1 : FVec F S_ .f32 := shapeCast S_ main_v0 shapeCasts_S1x1_S_
  let main_v2 : FVec F S1x1 .f32 := (extractStridedSlice S1x1 ![0, 0] · slices_S8000000x4_S1x1_0_0) main_arg0
  let main_v3 : FVec F S_ .f32 := shapeCast S_ main_v2 shapeCasts_S1x1_S_
  let main_v4 : FVec F S_ .f32 := subf main_v1 main_v3
  let main_cst : FVec F S_ .f32 := constant S_ .f32 0x38D1B717#32
  let main_v5 : FVec F S_ .f32 := addf main_v4 main_cst
  let main_cst_0 : FVec F S_ .f32 := constant S_ .f32 0x00000000#32
  let main_v6 : IVec S_ 1 := cmpf .une main_v5 main_cst_0
  main_v6
-- ==== Kernel.lean ====
abbrev S8000000x4 : Shape := ⟨2, ![8000000, 4]⟩
abbrev S8000000x1 : Shape := ⟨2, ![8000000, 1]⟩
abbrev S8000000 : Shape := ⟨1, ![8000000]⟩
abbrev S1 : Shape := ⟨1, ![1]⟩
abbrev S_ : Shape := ⟨0, ![]⟩
abbrev S2 : Shape := ⟨1, ![2]⟩
abbrev S8126464 : Shape := ⟨1, ![8126464]⟩
abbrev S131072 : Shape := ⟨1, ![131072]⟩
abbrev S2457600 : Shape := ⟨1, ![2457600]⟩
abbrev S4x2x256x1200 : Shape := ⟨4, ![4, 2, 256, 1200]⟩
abbrev S4x2x1x256x1200 : Shape := ⟨5, ![4, 2, 1, 256, 1200]⟩
abbrev S4x2x2x256x1200 : Shape := ⟨5, ![4, 2, 2, 256, 1200]⟩
abbrev S1x4096x30x40 : Shape := ⟨4, ![1, 4096, 30, 40]⟩

abbrev nBuf : Space → Nat
  | .hbm => 88
  | .vmem => 17
  | .smem => 0
  | _ => 0

abbrev bufTy : (tb : Table) → Fin (tcTables nBuf tb) → BufTy
  | .hbm, ⟨0, _⟩ => ⟨S8000000x4, .f32⟩
  | .hbm, ⟨1, _⟩ => ⟨S8000000x1, .f32⟩
  | .hbm, ⟨2, _⟩ => ⟨S8000000, .f32⟩
  | .hbm, ⟨3, _⟩ => ⟨S8000000x1, .f32⟩
  | .hbm, ⟨4, _⟩ => ⟨S8000000, .f32⟩
  | .hbm, ⟨5, _⟩ => ⟨S8000000x1, .f32⟩
  | .hbm, ⟨6, _⟩ => ⟨S8000000, .f32⟩
  | .hbm, ⟨7, _⟩ => ⟨S8000000x1, .f32⟩
  | .hbm, ⟨8, _⟩ => ⟨S8000000, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S2, .f32⟩
  | .hbm, ⟨21, _⟩ => ⟨S1, .f32⟩
  | .hbm, ⟨22, _⟩ => ⟨S_, .f32⟩
  | .hbm, ⟨23, _⟩ => ⟨S8000000, .f32⟩
  | .hbm, ⟨24, _⟩ => ⟨S8000000, .f32⟩
  | .hbm, ⟨25, _⟩ => ⟨S_, .f32⟩
  | .hbm, ⟨26, _⟩ => ⟨S8000000, .f32⟩
  | .hbm, ⟨27, _⟩ => ⟨S8000000, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8000000, .f32⟩
  | .hbm, ⟨36, _⟩ => ⟨S8000000, .f32⟩
  | .hbm, ⟨37, _⟩ => ⟨S8000000, .f32⟩
  | .hbm, ⟨38, _⟩ => ⟨S8000000, .i32⟩
  | .hbm, ⟨39, _⟩ => ⟨S_, .i32⟩
  | .hbm, ⟨40, _⟩ => ⟨S_, .f32⟩
  | .hbm, ⟨41, _⟩ => ⟨S8126464, .f32⟩
  | .hbm, ⟨42, _⟩ => ⟨S_, .i32⟩
  | .hbm, ⟨43, _⟩ => ⟨S_, .f32⟩
  | .hbm, ⟨44, _⟩ => ⟨S8126464, .f32⟩
  | .hbm, ⟨45, _⟩ => ⟨S_, .i32⟩
  | .hbm, ⟨46, _⟩ => ⟨S_, .f32⟩
  | .hbm, ⟨47, _⟩ => ⟨S8126464, .f32⟩
  | .hbm, ⟨48, _⟩ => ⟨S_, .i32⟩
  | .hbm, ⟨49, _⟩ => ⟨S_, .f32⟩
  | .hbm, ⟨50, _⟩ => ⟨S8126464, .f32⟩
  | .hbm, ⟨51, _⟩ => ⟨S_, .i32⟩
  | .hbm, ⟨52, _⟩ => ⟨S_, .i32⟩
  | .hbm, ⟨53, _⟩ => ⟨S8126464, .i32⟩
  | .hbm, ⟨54, _⟩ => ⟨S8126464, .i32⟩
  | .hbm, ⟨55, _⟩ => ⟨S8126464, .f32⟩
  | .hbm, ⟨56, _⟩ => ⟨S8126464, .f32⟩
  | .hbm, ⟨57, _⟩ => ⟨S8000000, .i32⟩
  | .hbm, ⟨58, _⟩ => ⟨S8000000, .f32⟩
  | .hbm, ⟨59, _⟩ => ⟨S8000000, .f32⟩
  | .hbm, ⟨60, _⟩ => ⟨S_, .f32⟩
  | .hbm, ⟨61, _⟩ => ⟨S2457600, .f32⟩
  | .hbm, ⟨62, _⟩ => ⟨S_, .i32⟩
  | .hbm, ⟨63, _⟩ => ⟨S8000000, .i32⟩
  | .hbm, ⟨64, _⟩ => ⟨S8000000, .i1⟩
  | .hbm, ⟨65, _⟩ => ⟨S_, .i32⟩
  | .hbm, ⟨66, _⟩ => ⟨S8000000, .i32⟩
  | .hbm, ⟨67, _⟩ => ⟨S8000000, .i32⟩
  | .hbm, ⟨68, _⟩ => ⟨S8000000, .i32⟩
  | .hbm, ⟨69, _⟩ => ⟨S8000000x1, .i32⟩
  | .hbm, ⟨70, _⟩ => ⟨S2457600, .f32⟩
  | .hbm, ⟨71, _⟩ => ⟨S_, .f32⟩
  | .hbm, ⟨72, _⟩ => ⟨S2457600, .f32⟩
  | .hbm, ⟨73, _⟩ => ⟨S_, .i32⟩
  | .hbm, ⟨74, _⟩ => ⟨S8000000, .i32⟩
  | .hbm, ⟨75, _⟩ => ⟨S8000000, .i1⟩
  | .hbm, ⟨76, _⟩ => ⟨S_, .i32⟩
  | .hbm, ⟨77, _⟩ => ⟨S8000000, .i32⟩
  | .hbm, ⟨78, _⟩ => ⟨S8000000, .i32⟩
  | .hbm, ⟨79, _⟩ => ⟨S8000000, .i32⟩
  | .hbm, ⟨80, _⟩ => ⟨S8000000x1, .i32⟩
  | .hbm, ⟨81, _⟩ => ⟨S2457600, .f32⟩
  | .hbm, ⟨82, _⟩ => ⟨S4x2x256x1200, .f32⟩
  | .hbm, ⟨83, _⟩ => ⟨S4x2x256x1200, .f32⟩
  | .hbm, ⟨84, _⟩ => ⟨S4x2x1x256x1200, .f32⟩
  | .hbm, ⟨85, _⟩ => ⟨S4x2x1x256x1200, .f32⟩
  | .hbm, ⟨86, _⟩ => ⟨S4x2x2x256x1200, .f32⟩
  | .hbm, ⟨87, _⟩ => ⟨S1x4096x30x40, .f32⟩
  | .local _ .vmem, ⟨0, _⟩ => ⟨S131072, .f32⟩
  | .local _ .vmem, ⟨1, _⟩ => ⟨S131072, .f32⟩
  | .local _ .vmem, ⟨2, _⟩ => ⟨S131072, .f32⟩
  | .local _ .vmem, ⟨3, _⟩ => ⟨S131072, .f32⟩
  | .local _ .vmem, ⟨4, _⟩ => ⟨S131072, .f32⟩
  | .local _ .vmem, ⟨5, _⟩ => ⟨S131072, .f32⟩
  | .local _ .vmem, ⟨6, _⟩ => ⟨S131072, .f32⟩
  | .local _ .vmem, ⟨7, _⟩ => ⟨S131072, .f32⟩
  | .local _ .vmem, ⟨8, _⟩ => ⟨S131072, .i32⟩
  | .local _ .vmem, ⟨9, _⟩ => ⟨S131072, .i32⟩
  | .local _ .vmem, ⟨10, _⟩ => ⟨S2, .f32⟩
  | .local _ .vmem, ⟨11, _⟩ => ⟨S131072, .i32⟩
  | .local _ .vmem, ⟨12, _⟩ => ⟨S131072, .i32⟩
  | .local _ .vmem, ⟨13, _⟩ => ⟨S131072, .f32⟩
  | .local _ .vmem, ⟨14, _⟩ => ⟨S131072, .f32⟩
  | .local _ .vmem, ⟨15, _⟩ => ⟨S131072, .f32⟩
  | .local _ .vmem, ⟨16, _⟩ => ⟨S131072, .f32⟩
  | _, _ => ⟨S8000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_2 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_call0_v0 : Ref sig .tc := ⟨.hbm, 40, rfl⟩
abbrev main_v34 : Ref sig .tc := ⟨.hbm, 41, rfl⟩
abbrev main_c_3 : Ref sig .tc := ⟨.hbm, 42, rfl⟩
abbrev main_call1_v0 : Ref sig .tc := ⟨.hbm, 43, rfl⟩
abbrev main_v35 : Ref sig .tc := ⟨.hbm, 44, rfl⟩
abbrev main_c_4 : Ref sig .tc := ⟨.hbm, 45, rfl⟩
abbrev main_call2_v0 : Ref sig .tc := ⟨.hbm, 46, rfl⟩
abbrev main_v36 : Ref sig .tc := ⟨.hbm, 47, rfl⟩
abbrev main_c_5 : Ref sig .tc := ⟨.hbm, 48, rfl⟩
abbrev main_call3_v0 : Ref sig .tc := ⟨.hbm, 49, rfl⟩
abbrev main_v37 : Ref sig .tc := ⟨.hbm, 50, rfl⟩
abbrev main_c_6 : Ref sig .tc := ⟨.hbm, 51, rfl⟩
abbrev main_call4_v0 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v39_2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![62], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S131072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S131072 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S131072 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S131072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S131072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8000000x4 : Shape := ⟨2, ![8000000, 4]⟩
abbrev S4 : Shape := ⟨1, ![4]⟩
abbrev S8000000x1 : Shape := ⟨2, ![8000000, 1]⟩
abbrev S8000000 : Shape := ⟨1, ![8000000]⟩
abbrev S_ : Shape := ⟨0, ![]⟩
abbrev S1x1 : Shape := ⟨2, ![1, 1]⟩
abbrev S1 : Shape := ⟨1, ![1]⟩
abbrev S1x8000000 : Shape := ⟨2, ![1, 8000000]⟩
abbrev S4x8000000 : Shape := ⟨2, ![4, 8000000]⟩
abbrev S4x1 : Shape := ⟨2, ![4, 1]⟩
abbrev S2457600 : Shape := ⟨1, ![2457600]⟩
abbrev S4x2x256x1200 : Shape := ⟨4, ![4, 2, 256, 1200]⟩
abbrev S4x2x1x256x1200 : Shape := ⟨5, ![4, 2, 1, 256, 1200]⟩
abbrev S4x2x2x256x1200 : Shape := ⟨5, ![4, 2, 2, 256, 1200]⟩
abbrev S1x4096x30x40 : Shape := ⟨4, ![1, 4096, 30, 40]⟩

abbrev nBuf : Space → Nat
  | .hbm => 160
  | .vmem => 0
  | .smem => 0
  | _ => 0

abbrev hbmTy0_0 (i : Nat) : BufTy := match i % 128 with
  | 0 => ⟨S8000000x4, .f32⟩
  | 1 => ⟨S4, .i32⟩
  | 2 => ⟨S4, .i32⟩
  | 3 => ⟨S8000000x1, .f32⟩
  | 4 => ⟨S8000000, .f32⟩
  | 5 => ⟨S_, .f32⟩
  | 6 => ⟨S8000000, .f32⟩
  | 7 => ⟨S8000000, .i1⟩
  | 8 => ⟨S8000000, .f32⟩
  | 9 => ⟨S8000000x1, .f32⟩
  | 10 => ⟨S8000000, .f32⟩
  | 11 => ⟨S1x1, .f32⟩
  | 12 => ⟨S_, .f32⟩
  | 13 => ⟨S8000000, .f32⟩
  | 14 => ⟨S8000000, .f32⟩
  | 15 => ⟨S1x1, .f32⟩
  | 16 => ⟨S_, .f32⟩
  | 17 => ⟨S1x1, .f32⟩
  | 18 => ⟨S_, .f32⟩
  | 19 => ⟨S_, .f32⟩
  | 20 => ⟨S_, .f32⟩
  | 21 => ⟨S_, .f32⟩
  | 22 => ⟨S8000000, .f32⟩
  | 23 => ⟨S8000000, .f32⟩
  | 24 => ⟨S8000000x1, .f32⟩
  | 25 => ⟨S8000000, .f32⟩
  | 26 => ⟨S_, .f32⟩
  | 27 => ⟨S8000000, .f32⟩
  | 28 => ⟨S8000000, .f32⟩
  | 29 => ⟨S8000000, .f32⟩
  | 30 => ⟨S8000000x1, .f32⟩
  | 31 => ⟨S8000000, .f32⟩
  | 32 => ⟨S_, .f32⟩
  | 33 => ⟨S8000000, .f32⟩
  | 34 => ⟨S8000000, .f32⟩
  | 35 => ⟨S8000000, .f32⟩
  | 36 => ⟨S_, .f32⟩
  | 37 => ⟨S8000000, .f32⟩
  | 38 => ⟨S8000000, .f32⟩
  | 39 => ⟨S8000000, .f32⟩
  | 40 => ⟨S8000000x1, .f32⟩
  | 41 => ⟨S8000000, .f32⟩
  | 42 => ⟨S_, .f32⟩
  | 43 => ⟨S_, .f32⟩
  | 44 => ⟨S8000000, .f32⟩
  | 45 => ⟨S8000000, .f32⟩
  | 46 => ⟨S_, .f32⟩
  | 47 => ⟨S8000000, .f32⟩
  | 48 => ⟨S8000000, .i1⟩
  | 49 => ⟨S_, .f32⟩
  | 50 => ⟨S8000000, .f32⟩
  | 51 => ⟨S8000000, .i1⟩
  | 52 => ⟨S_, .f32⟩
  | 53 => ⟨S_, .i1⟩
  | 54 => ⟨S8000000, .i1⟩
  | 55 => ⟨S8000000, .i1⟩
  | 56 => ⟨S8000000, .i1⟩
  | 57 => ⟨S8000000, .f32⟩
  | 58 => ⟨S8000000, .f32⟩
  | 59 => ⟨S8000000, .f32⟩
  | 60 => ⟨S8000000, .f32⟩
  | 61 => ⟨S8000000x1, .f32⟩
  | 62 => ⟨S8000000, .f32⟩
  | 63 => ⟨S_, .f32⟩
  | 64 => ⟨S_, .f32⟩
  | 65 => ⟨S8000000, .f32⟩
  | 66 => ⟨S8000000, .f32⟩
  | 67 => ⟨S_, .f32⟩
  | 68 => ⟨S8000000, .f32⟩
  | 69 => ⟨S8000000, .i1⟩
  | 70 => ⟨S_, .f32⟩
  | 71 => ⟨S8000000, .f32⟩
  | 72 => ⟨S8000000, .i1⟩
  | 73 => ⟨S_, .f32⟩
  | 74 => ⟨S_, .i1⟩
  | 75 => ⟨S8000000, .i1⟩
  | 76 => ⟨S8000000, .i1⟩
  | 77 => ⟨S8000000, .i1⟩
  | 78 => ⟨S8000000, .f32⟩
  | 79 => ⟨S8000000, .f32⟩
  | 80 => ⟨S8000000, .f32⟩
  | 81 => ⟨S8000000, .f32⟩
  | 82 => ⟨S_, .f32⟩
  | 83 => ⟨S8000000, .f32⟩
  | 84 => ⟨S8000000, .f32⟩
  | 85 => ⟨S8000000, .f32⟩
  | 86 => ⟨S8000000x1, .f32⟩
  | 87 => ⟨S8000000, .f32⟩
  | 88 => ⟨S1, .f32⟩
  | 89 => ⟨S_, .f32⟩
  | 90 => ⟨S8000000, .f32⟩
  | 91 => ⟨S8000000, .f32⟩
  | 92 => ⟨S_, .f32⟩
  | 93 => ⟨S8000000, .f32⟩
  | 94 => ⟨S8000000, .f32⟩
  | 95 => ⟨S1, .f32⟩
  | 96 => ⟨S_, .f32⟩
  | 97 => ⟨S1, .f32⟩
  | 98 => ⟨S_, .f32⟩
  | 99 => ⟨S_, .f32⟩
  | 100 => ⟨S_, .f32⟩
  | 101 => ⟨S_, .f32⟩
  | 102 => ⟨S8000000, .f32⟩
  | 103 => ⟨S8000000, .f32⟩
  | 104 => ⟨S8000000, .f32⟩
  | 105 => ⟨S8000000x1, .f32⟩
  | 106 => ⟨S8000000, .f32⟩
  | 107 => ⟨S1x8000000, .f32⟩
  | 108 => ⟨S1x8000000, .f32⟩
  | 109 => ⟨S1x8000000, .f32⟩
  | 110 => ⟨S1x8000000, .f32⟩
  | 111 => ⟨S4x8000000, .f32⟩
  | 112 => ⟨S4x8000000, .i32⟩
  | 113 => ⟨S_, .i32⟩
  | 114 => ⟨S4x8000000, .i32⟩
  | 115 => ⟨S4x8000000, .i32⟩
  | 116 => ⟨S4x1, .i32⟩
  | 117 => ⟨S4x8000000, .i32⟩
  | 118 => ⟨S4x8000000, .i32⟩
  | 119 => ⟨S4x1, .i32⟩
  | 120 => ⟨S4x8000000, .i32⟩
  | 121 => ⟨S4x8000000, .i32⟩
  | 122 => ⟨S_, .i32⟩
  | 123 => ⟨S8000000, .i32⟩
  | 124 => ⟨S_, .f32⟩
  | 125 => ⟨S2457600, .f32⟩
  | 126 => ⟨S_, .i32⟩
  | 127 => ⟨S_, .i32⟩
  | _ => ⟨S8000000x4, .f32⟩

abbrev hbmTy0_1 (i : Nat) : BufTy := match i % 128 with
  | 0 => ⟨S8000000, .i32⟩
  | 1 => ⟨S8000000, .i32⟩
  | 2 => ⟨S_, .i32⟩
  | 3 => ⟨S8000000, .i32⟩
  | 4 => ⟨S8000000, .i1⟩
  | 5 => ⟨S_, .i32⟩
  | 6 => ⟨S8000000, .i32⟩
  | 7 => ⟨S8000000, .i32⟩
  | 8 => ⟨S8000000, .i32⟩
  | 9 => ⟨S8000000x1, .i32⟩
  | 10 => ⟨S2457600, .f32⟩
  | 11 => ⟨S4x2x256x1200, .f32⟩
  | 12 => ⟨S_, .f32⟩
  | 13 => ⟨S2457600, .f32⟩
  | 14 => ⟨S_, .i32⟩
  | 15 => ⟨S_, .i32⟩
  | 16 => ⟨S8000000, .i32⟩
  | 17 => ⟨S8000000, .i32⟩
  | 18 => ⟨S_, .i32⟩
  | 19 => ⟨S8000000, .i32⟩
  | 20 => ⟨S8000000, .i1⟩
  | 21 => ⟨S_, .i32⟩
  | 22 => ⟨S8000000, .i32⟩
  | 23 => ⟨S8000000, .i32⟩
  | 24 => ⟨S8000000, .i32⟩
  | 25 => ⟨S8000000x1, .i32⟩
  | 26 => ⟨S2457600, .f32⟩
  | 27 => ⟨S4x2x256x1200, .f32⟩
  | 28 => ⟨S4x2x1x256x1200, .f32⟩
  | 29 => ⟨S4x2x1x256x1200, .f32⟩
  | 30 => ⟨S4x2x2x256x1200, .f32⟩
  | 31 => ⟨S1x4096x30x40, .f32⟩
  | _ => ⟨S8000000x4, .f32⟩

abbrev hbmTy (i : Nat) : BufTy := match i / 128 with
  | 0 => hbmTy0_0 i
  | 1 => hbmTy0_1 i
  | _ => ⟨S8000000x4, .f32⟩

abbrev bufTy : (tb : Table) → Fin (tcTables nBuf tb) → BufTy
  | .hbm, ⟨i, _⟩ => hbmTy i
  | _, _ => ⟨S8000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_cst : Ref sig .tc := ⟨.hbm, 46, rfl⟩
abbrev main_call0_v3 : Ref sig .tc := ⟨.hbm, 47, rfl⟩
abbrev main_call0_v4 : Ref sig .tc := ⟨.hbm, 48, rfl⟩
abbrev main_call0_cst_0 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_v12 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_cst : Ref sig .tc := ⟨.hbm, 67, rfl⟩
abbrev main_call1_v3 : Ref sig .tc := ⟨.hbm, 68, rfl⟩
abbrev main_call1_v4 : Ref sig .tc := ⟨.hbm, 69, rfl⟩
abbrev main_call1_cst_0 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_v38 : Ref sig .tc := ⟨.hbm, 80, rfl⟩
abbrev main_v39 : Ref sig .tc := ⟨.hbm, 81, rfl⟩
abbrev main_cst_7 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_8 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_9 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_10 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_c_11 : Ref sig .tc := ⟨.hbm, 122, rfl⟩
abbrev main_v76 : Ref sig .tc := ⟨.hbm, 123, rfl⟩
abbrev main_cst_12 : Ref sig .tc := ⟨.hbm, 124, rfl⟩
abbrev main_v77 : Ref sig .tc := ⟨.hbm, 125, rfl⟩
abbrev main_c_13 : Ref sig .tc := ⟨.hbm, 126, rfl⟩
abbrev main_call2_v0 : Ref sig .tc := ⟨.hbm, 127, rfl⟩
abbrev main_call2_v1 : Ref sig .tc := ⟨.hbm, 128, rfl⟩
abbrev main_v78 : Ref sig .tc := ⟨.hbm, 129, rfl⟩
abbrev main_c_14 : Ref sig .tc := ⟨.hbm, 130, rfl⟩
abbrev main_v79 : Ref sig .tc := ⟨.hbm, 131, rfl⟩
abbrev main_v80 : Ref sig .tc := ⟨.hbm, 132, rfl⟩
abbrev main_c_15 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_16 : Ref sig .tc := ⟨.hbm, 140, rfl⟩
abbrev main_v87 : Ref sig .tc := ⟨.hbm, 141, rfl⟩
abbrev main_c_17 : Ref sig .tc := ⟨.hbm, 142, rfl⟩
abbrev main_call3_v0 : Ref sig .tc := ⟨.hbm, 143, rfl⟩
abbrev main_call3_v1 : Ref sig .tc := ⟨.hbm, 144, rfl⟩
abbrev main_v88 : Ref sig .tc := ⟨.hbm, 145, rfl⟩
abbrev main_c_18 : Ref sig .tc := ⟨.hbm, 146, rfl⟩
abbrev main_v89 : Ref sig .tc := ⟨.hbm, 147, rfl⟩
abbrev main_v90 : Ref sig .tc := ⟨.hbm, 148, rfl⟩
abbrev main_c_19 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩

abbrev nD : Nat := 1
abbrev τ : Topo := Topo.v7x

variable {F : FTy → Type} [FloatOps F]
-- ==== Proof.FrameKernelIdeal.lean ====
/- The frame of `Cert.KernelIdeal`: @main around its one region, what the body leaves in each output window's buffer
   (`Gen.out0_6`, `Gen.out0_7`, `Gen.out0_8`), the body's triple, the proof data of the pipeline, the run and the frame
   claim at any `F`. It follows the generated frame of this program; the one difference is that the comparison
   of two scalar constants in `Gen.out0_6` names the instance `F` of its operands, which its result, a bit, does
   not determine. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 558000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's accesses -/

abbrev r0_0 : Rect S131072 := Rect.unit (s := S131072) ![0] S131072.size inb_S131072_S131072_0
abbrev r0_1 : Rect S2 := Rect.unit (s := S2) ![0] S1.size inb_S2_S1_0
abbrev r0_2 : Rect S2 := Rect.unit (s := S2) ![1] S1.size inb_S2_S1_1

/-! ## What the body leaves in each output window's buffer -/

/-- Window 6's staging buffer after the body, from the input windows' blocks: its 1 store as pieces, LAST
    FIRST (Lib/Pipeline/FrameBody.lean `View.canon`; the payloads are the skeleton's). -/
def out0_6 (x0 : Vec F S131072 .f32) (x1 : Vec F S131072 .f32) (x2 : Vec F S131072 .f32) (x3 : Vec F S131072 .f32) (x4 : Vec F S131072 .i32) (x5 : Vec F S2 .f32) : Vec F S131072 .i32 :=
  View.canon [⟨r0_0, k0_pay1 (k0_pay12 (k0_pay5 (View.ld x4 r0_0))) (k0_pay13 (k0_pay4 (View.ld x3 r0_0))) (k0_pay14 (k0_pay3 (View.ld x2 r0_0)) (Scalar.ofBits .f32 0x417F9A02#32) (k0_pay9 (View.ld x1 r0_0)) (k0_pay10 (View.ld x1 r0_0)) (k0_pay11 (View.ld x1 r0_0)) (Scalar.cmpf (F := F) .olt (Scalar.ofBits .f32 0x417F9A02#32) (Scalar.ofBits .f32 0x00000000#32))) (k0_pay15 (k0_pay8 (View.ld x1 r0_0) (View.ld x2 r0_0))) k0_pay16⟩]

/-- Its stores tile the buffer (checked by evaluation), so they cover it. -/
theorem cover0_6 (p0 : Vec F S131072 .i32) (y : S131072.Idx) :
    ∃ pc ∈ ([⟨r0_0, p0⟩] : List (View.Piece (Elt F) S131072 .i32)), y ∈ pc.1.set :=
  View.cover_of_tiled [⟨r0_0, p0⟩] S131072.size (by rfl) y

/-- Window 7's staging buffer after the body, from the input windows' blocks: its 1 store as pieces, LAST
    FIRST (Lib/Pipeline/FrameBody.lean `View.canon`; the payloads are the skeleton's). -/
def out0_7 (x0 : Vec F S131072 .f32) (x1 : Vec F S131072 .f32) (x2 : Vec F S131072 .f32) (x3 : Vec F S131072 .f32) (x4 : Vec F S131072 .i32) (x5 : Vec F S2 .f32) : Vec F S131072 .f32 :=
  View.canon [⟨r0_0, k0_pay6 (View.ld x3 r0_0)⟩]

/-- Its stores tile the buffer (checked by evaluation), so they cover it. -/
theorem cover0_7 (p0 : Vec F S131072 .f32) (y : S131072.Idx) :
    ∃ pc ∈ ([⟨r0_0, p0⟩] : List (View.Piece (Elt F) S131072 .f32)), y ∈ pc.1.set :=
  View.cover_of_tiled [⟨r0_0, p0⟩] S131072.size (by rfl) y

/-- Window 8's staging buffer after the body, from the input windows' blocks: its 1 store as pieces, LAST
    FIRST (Lib/Pipeline/FrameBody.lean `View.canon`; the payloads are the skeleton's). -/
def out0_8 (x0 : Vec F S131072 .f32) (x1 : Vec F S131072 .f32) (x2 : Vec F S131072 .f32) (x3 : Vec F S131072 .f32) (x4 : Vec F S131072 .i32) (x5 : Vec F S2 .f32) : Vec F S131072 .f32 :=
  View.canon [⟨r0_0, k0_pay7 (View.ld x0 r0_0) (View.ld x5 r0_1) (View.ld x5 r0_2)⟩]

/-- Its stores tile the buffer (checked by evaluation), so they cover it. -/
theorem cover0_8 (p0 : Vec F S131072 .f32) (y : S131072.Idx) :
    ∃ pc ∈ ([⟨r0_0, p0⟩] : List (View.Piece (Elt F) S131072 .f32)), y ∈ pc.1.set :=
  View.cover_of_tiled [⟨r0_0, p0⟩] S131072.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S131072 .f32) (harg1 : arg1.IsWhole) (arg2 : Memref sig .tc .vmem S131072 .f32) (harg2 : arg2.IsWhole) (arg3 : Memref sig .tc .vmem S131072 .f32) (harg3 : arg3.IsWhole) (arg4 : Memref sig .tc .vmem S131072 .f32) (harg4 : arg4.IsWhole) (arg5 : Memref sig .tc .vmem S131072 .i32) (harg5 : arg5.IsWhole) (arg6 : Memref sig .tc .vmem S2 .f32) (harg6 : arg6.IsWhole) (arg7 : Memref sig .tc .vmem S131072 .i32) (harg7 : arg7.IsWhole) (arg8 : Memref sig .tc .vmem S131072 .f32) (harg8 : arg8.IsWhole) (arg9 : Memref sig .tc .vmem S131072 .f32) (harg9 : arg9.IsWhole)
    (x0 : Vec F S131072 .f32) (x1 : Vec F S131072 .f32) (x2 : Vec F S131072 .f32) (x3 : Vec F S131072 .f32) (x4 : Vec F S131072 .i32) (x5 : Vec F S2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5)) -∗ K ⟨⟩))
      ⊢ wp frame (wpE (defs₀ (F := F)) Variants.none c none) E (cc0__index_kernel i arg1 harg1 arg2 harg2 arg3 harg3 arg4 harg4 arg5 harg5 arg6 harg6 arg7 harg7 arg8 harg8 arg9 harg9) K := by
  simp only [cc0__index_kernel_eq_skeleton]; unfold cc0__index_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
    | ⟨8, _⟩ => out0_8 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Gen

end
-- ==== Proof.Event.lean ====
/- One event of the histogram, over the extended reals: the word it is counted at, its weight and its weight in time,
   as the kernel's body computes them. -/
module

public import Idealize.ShloMosaic.PureOps
public import Idealize.ShloMosaic.PureOps.Ideal

@[expose] public section

noncomputable section

namespace Cert.Hist

open Idealize.ShloMosaic

/-- The element type of the float arrays at the ideal instance: an extended real. -/
abbrev Num := Ideal .f32

/-- The number a float word denotes. -/
abbrev lit (b : BitVec 32) : Num := FloatOps.ofBits .f32 b

/-- A word clipped into `0 … hi`. -/
def clip (hi v : BitVec 32) : BitVec 32 := IntOp.minsi hi (IntOp.maxsi 0#32 v)

/-- The remainder with the divisor's sign, as the kernel's body spells it: the truncated remainder `r`, and `r + y`
    where `r` is not zero and its sign is not that of `y`. -/
def modK (x y : Num) : Num :=
  Scalar.select
    (IntOp.andi (IntOp.xori (FloatOps.cmpf .olt (FloatOps.remf x y) (lit 0x00000000#32))
        (Scalar.cmpf (F := Ideal) .olt y (lit 0x00000000#32)))
      (FloatOps.cmpf .one (FloatOps.remf x y) (lit 0x00000000#32)))
    (FloatOps.addf (FloatOps.remf x y) y) (FloatOps.remf x y)

/-- The event's position, as the kernel's body computes it. -/
def posK (xs ys : Num) : Num :=
  FloatOps.addf (FloatOps.floor (FloatOps.divf xs (lit 0x417F9A02#32)))
    (FloatOps.mulf (FloatOps.floor (FloatOps.divf ys (lit 0x417F77E0#32))) (lit 0x42200000#32))

/-- The event's token, as the kernel's body computes it. -/
def tokK (xs ys : Num) : Num :=
  FloatOps.addf (FloatOps.floor (modK xs (lit 0x417F9A02#32)))
    (FloatOps.mulf (FloatOps.floor (modK ys (lit 0x417F77E0#32))) (lit 0x41800000#32))

/-- The word the kernel's body writes for an event of time slot `dt`, polarity `p` and place `xs`, `ys`. -/
def wordK (dt : BitVec 32) (p xs ys : Num) : BitVec 32 :=
  IntOp.addi (IntOp.addi (IntOp.addi (IntOp.muli (clip 4#32 dt) 614400#32)
      (IntOp.muli (clip 2#32 (FloatOps.fptosi 32 p)) 307200#32))
      (IntOp.muli (clip 256#32 (FloatOps.fptosi 32 (tokK xs ys))) 1200#32))
    (clip 1200#32 (FloatOps.fptosi 32 (posK xs ys)))

/-- The weight the kernel's body writes for an event of polarity `p`: one unless `p` is two. -/
def weightK (p : Num) : Num :=
  FloatOps.sitofp .f32 ((FloatOps.cmpf .one p (lit 0x40000000#32)).setWidth 32)

/-- The weight in time the kernel's body writes for an event at time `t`, from the first time `t0` and the scale `s`. -/
def timeK (t t0 s : Num) : Num := FloatOps.mulf (FloatOps.subf t t0) s

end Cert.Hist

end
-- ==== Proof.Region.lean ====
/- The kernel's region, over the extended reals: each of its three output arrays, after the 62 blocks have been
   written back, is one function of the input arrays' elements at the same index (`word_arr`, `weight_arr`,
   `time_arr`). -/
module

public import proofs.«01_k».proof.Proof.FrameKernelIdeal
public import proofs.«01_k».proof.Proof.Event
public import Idealize.ShloMosaic.Lib.Pipeline.Value

@[expose] public section

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Cert.Hist

variable (m : (ℓ : Loc nD τ sig) → Buf (Elt Ideal) ℓ)

theorem hz : (![0] : Fin 1 → Nat) = fun _ => 0 := funext fun a => by fin_cases a; rfl

/-- The words of the region, from the padded columns as it finds them. -/
def words (c : Dev nD) : S8126464.Idx → BitVec 32 := fun y =>
  wordK (V m c main_v38 y) (V m c main_v37 y) (V m c main_v35 y) (V m c main_v36 y)

/-- The weights of the region. -/
def weights (c : Dev nD) : S8126464.Idx → Num := fun y => weightK (V m c main_v37 y)

/-- The two indices of the array of scalars. -/
def at0 : S2.Idx := fun a => ⟨0, by fin_cases a; decide⟩
def at1 : S2.Idx := fun a => ⟨1, by fin_cases a; decide⟩

/-- The first of the two scalars handed to the region. -/
def first (c : Dev nD) : Num := V m c main_v17 at0

/-- The second of them. -/
def scale (c : Dev nD) : Num := V m c main_v17 at1

/-- The weights in time of the region. -/
def times (c : Dev nD) : S8126464.Idx → Num := fun y => timeK (V m c main_v34 y) (first m c) (scale m c)

/-! ## What the body leaves in the three output buffers, element by element -/

theorem out_weight (x0 x1 x2 x3 : Vec Ideal S131072 .f32) (x4 : Vec Ideal S131072 .i32) (x5 : Vec Ideal S2 .f32) :
    out0_7 x0 x1 x2 x3 x4 x5 = fun y => weightK (x3 y) := by
  unfold out0_7
  rw [View.canon_unit_zero hz, View.ld_unit_zero (S := S131072) hz]
  unfold k0_pay6 k0_pay4
  rw [shapeCast_self]
  rfl

theorem out_time (x0 x1 x2 x3 : Vec Ideal S131072 .f32) (x4 : Vec Ideal S131072 .i32) (x5 : Vec Ideal S2 .f32) :
    out0_8 x0 x1 x2 x3 x4 x5 = fun y => timeK (x0 y) (x5 at0) (x5 at1) := by
  unfold out0_8
  rw [View.canon_unit_zero hz, View.ld_unit_zero (S := S131072) hz]
  unfold k0_pay7
  rw [shapeCast_self]
  have e0 : extractAt ![0] (View.ld x5 r0_1) inpos_S1_p0 = x5 at0 :=
    congrArg x5 (funext fun a => by fin_cases a; rfl)
  have e1 : extractAt ![0] (View.ld x5 r0_2) inpos_S1_p0 = x5 at1 :=
    congrArg x5 (funext fun a => by fin_cases a; rfl)
  dsimp only
  rw [e0, e1]
  rfl

theorem out_word (x0 x1 x2 x3 : Vec Ideal S131072 .f32) (x4 : Vec Ideal S131072 .i32) (x5 : Vec Ideal S2 .f32) :
    out0_6 x0 x1 x2 x3 x4 x5 = fun y => wordK (x4 y) (x3 y) (x1 y) (x2 y) := by
  unfold out0_6
  rw [View.canon_unit_zero hz, View.ld_unit_zero (S := S131072) hz, View.ld_unit_zero (S := S131072) hz,
    View.ld_unit_zero (S := S131072) hz, View.ld_unit_zero (S := S131072) hz]
  unfold k0_pay8 k0_pay9 k0_pay10 k0_pay11 k0_pay9 k0_pay5 k0_pay4 k0_pay3 k0_pay2
  rw [shapeCast_self, shapeCast_self, shapeCast_self, shapeCast_self]
  rfl

/-! ## What a grid point writes back: its block of the whole-array function -/

theorem flushed_weight (c : Dev nD) (t : Fin cfg0.N) :
    (dats m 0 c).flushed 7 t = (win0_7.blk t).view.read (Elt Ideal) (weights m c) := by
  show (cfg0.win 7).cut (grid0.coords t) ((dats m 0 c).after 7 t) = _
  rw [after0_7, out_weight]
  rfl

theorem flushed_word (c : Dev nD) (t : Fin cfg0.N) :
    (dats m 0 c).flushed 6 t = (win0_6.blk t).view.read (Elt Ideal) (words m c) := by
  show (cfg0.win 6).cut (grid0.coords t) ((dats m 0 c).after 6 t) = _
  rw [after0_6, out_word]
  rfl

theorem flushed_time (c : Dev nD) (t : Fin cfg0.N) :
    (dats m 0 c).flushed 8 t = (win0_8.blk t).view.read (Elt Ideal) (times m c) := by
  show (cfg0.win 8).cut (grid0.coords t) ((dats m 0 c).after 8 t) = _
  rw [after0_8, out_time]
  rfl

/-! ## The 62 blocks cover each output array -/

/-- Where the blocks of the three output windows start and how long they are, at every grid point. -/
theorem spans : ∀ t : Fin grid0.N,
    (win0_6.index t 0 * win0_6.size 0 = t.val * 131072 ∧ win0_6.xsize (grid0.coords t) 0 = 131072)
    ∧ (win0_7.index t 0 * win0_7.size 0 = t.val * 131072 ∧ win0_7.xsize (grid0.coords t) 0 = 131072)
    ∧ (win0_8.index t 0 * win0_8.size 0 = t.val * 131072 ∧ win0_8.xsize (grid0.coords t) 0 = 131072) := by
  decide +kernel

/-- The grid point whose block holds an index. -/
def point (i : S8126464.Idx) : Fin cfg0.N :=
  ⟨(i 0 : Nat) / 131072, by
    have h : (i 0 : Nat) < 8126464 := (i 0).isLt
    have hN : cfg0.N = 62 := N_0
    omega⟩

/-- A number is in the block of the point that is its quotient by the block's length. -/
theorem mem_span {start len k n : Nat} (hs : start = k * 131072) (hl : len = 131072) (hk : k = n / 131072) :
    start ≤ n ∧ n < start + len := by omega

theorem cover_word (i : S8126464.Idx) :
    ∃ t : Fin cfg0.N, (cfg0.win 6).flush t = true ∧ i ∈ ((cfg0.win 6).blk t).view.set := by
  refine ⟨point i, flush0_6 _, ?_⟩
  show i ∈ ((View.whole main_v39_0).slice (win0_6.rect (point i))).set
  rw [View.set_slice_whole, Rect.mem_set_unit]
  intro a
  obtain rfl : a = 0 := by fin_cases a; rfl
  exact mem_span (spans (point i)).1.1 (spans (point i)).1.2 rfl

theorem cover_weight (i : S8126464.Idx) :
    ∃ t : Fin cfg0.N, (cfg0.win 7).flush t = true ∧ i ∈ ((cfg0.win 7).blk t).view.set := by
  refine ⟨point i, flush0_7 _, ?_⟩
  show i ∈ ((View.whole main_v39_1).slice (win0_7.rect (point i))).set
  rw [View.set_slice_whole, Rect.mem_set_unit]
  intro a
  obtain rfl : a = 0 := by fin_cases a; rfl
  exact mem_span (spans (point i)).2.1.1 (spans (point i)).2.1.2 rfl

theorem cover_time (i : S8126464.Idx) :
    ∃ t : Fin cfg0.N, (cfg0.win 8).flush t = true ∧ i ∈ ((cfg0.win 8).blk t).view.set := by
  refine ⟨point i, flush0_8 _, ?_⟩
  show i ∈ ((View.whole main_v39_2).slice (win0_8.rect (point i))).set
  rw [View.set_slice_whole, Rect.mem_set_unit]
  intro a
  obtain rfl : a = 0 := by fin_cases a; rfl
  exact mem_span (spans (point i)).2.2.1 (spans (point i)).2.2.2 rfl

/-- The region's array of words: each from the padded columns at its index. -/
theorem word_arr (c : Dev nD) : (dats m 0 c).arrAt 6 cfg0.N = words m c :=
  (dats m 0 c).arrAt_eq_of_cover 6 (words m c) (fun t _ => flushed_word m c t) cover_word

/-- The region's array of weights. -/
theorem weight_arr (c : Dev nD) : (dats m 0 c).arrAt 7 cfg0.N = weights m c :=
  (dats m 0 c).arrAt_eq_of_cover 7 (weights m c) (fun t _ => flushed_weight m c t) cover_weight

/-- The region's array of weights in time. -/
theorem time_arr (c : Dev nD) : (dats m 0 c).arrAt 8 cfg0.N = times m c :=
  (dats m 0 c).arrAt_eq_of_cover 8 (times m c) (fun t _ => flushed_time m c t) cover_time

end Cert.KernelIdeal.Region

end
-- ==== Proof.HostPrefix.lean ====
/- What the kernel's host operations before the region leave in the arrays the region reads, as functions of the
   array of events: four columns and the time slots, each with zeros after its last element, and the two scalars. -/
module

public import proofs.«01_k».proof.Proof.Region

@[expose] public section

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.StableHlo
open Cert.Hist

/-- The array of events: a row is a time, two coordinates and a polarity. -/
abbrev Events := S8000000x4.Idx → Num

/-- The events' times. -/
def colT (x : Events) : S8000000.Idx → Num :=
  shapeCast S8000000 (extractStridedSlice S8000000x1 ![0, 0] x slices_S8000000x4_S8000000x1_0_0) shapeCasts_S8000000x1_S8000000
/-- The events' first coordinates. -/
def colX (x : Events) : S8000000.Idx → Num :=
  shapeCast S8000000 (extractStridedSlice S8000000x1 ![0, 1] x slices_S8000000x4_S8000000x1_0_1) shapeCasts_S8000000x1_S8000000
/-- The events' second coordinates. -/
def colY (x : Events) : S8000000.Idx → Num :=
  shapeCast S8000000 (extractStridedSlice S8000000x1 ![0, 2] x slices_S8000000x4_S8000000x1_0_2) shapeCasts_S8000000x1_S8000000
/-- The events' polarities. -/
def colP (x : Events) : S8000000.Idx → Num :=
  shapeCast S8000000 (extractStridedSlice S8000000x1 ![0, 3] x slices_S8000000x4_S8000000x1_0_3) shapeCasts_S8000000x1_S8000000

/-- The first event's time, as a scalar. -/
def start (x : Events) : S_.Idx → Num :=
  shapeCast S_ (extractStridedSlice S1 ![0] (colT x) slices_S8000000_S1_0) shapeCasts_S1_S_
/-- The last event's time, as a scalar. -/
def stop (x : Events) : S_.Idx → Num :=
  shapeCast S_ (extractStridedSlice S1 ![7999999] (colT x) slices_S8000000_S1_7999999) shapeCasts_S1_S_

/-- The events' time slots before they are made words: `⌊4 · (t - start) / (stop - start + 1)⌋`. -/
def slot (x : Events) : S8000000.Idx → Num :=
  Host.floor (Host.divf (mulf (broadcastInDim S8000000 ![] bcast_S_S8000000 (constant S_ .f32 0x40800000#32))
      (subf (colT x) (broadcastInDim S8000000 ![] bcast_S_S8000000 (start x))))
    (broadcastInDim S8000000 ![] bcast_S_S8000000 (addf (subf (stop x) (start x)) (constant S_ .f32 0x3F800000#32))))

/-- A column with zeros after its last element. -/
def padded (v : S8000000.Idx → Num) : S8126464.Idx → Num :=
  pad S8126464 ![0] ![126464] ![0] v (sitofp .f32 (constantI S_ 32 0#32)) pads_S8000000_S8126464_01264640 h_S_

/-- The two scalars handed to the region: the first time and the reciprocal of the time weights' divisor. -/
def scalars (x : Events) : S2.Idx → Num :=
  concatenate S2 0
    [⟨S1, broadcastInDim S1 ![] bcast_S_S1 (start x)⟩,
     ⟨S1, broadcastInDim S1 ![] bcast_S_S1 (Host.divf (constant S_ .f32 0x3F800000#32)
        (addf (subf (stop x) (start x)) (constant S_ .f32 0x38D1B717#32)))⟩] concatenates_S1_S1_S2_d0

variable (m : (ℓ : Loc nD τ sig) → Buf (Elt Ideal) ℓ)

/-- The events of device `c`, as launched. -/
abbrev events (c : Dev nD) : Events := m ((c : Thread nD τ).loc main_arg0)

set_option maxHeartbeats 4000000

/-- The region finds the times, padded, in its first column. -/
theorem V_times (c : Dev nD) : V m c main_v34 = padded (colT (events m c)) := by
  dsimp only [V, V0, hostOps0, hostOps0_1, hostOps0_2, hostOps0_3, hostOps0_4, hostOps0_5, hostOps0_6, hostOps0_7, hostOps0_8,
    hostOps0_9, List.flatten_cons, List.flatten_nil, List.append_nil, List.cons_append, List.nil_append]
  simp only [TRef.binary, TRef.nullary, TRef.ternary, TRef.unary, TRef.toBuf, TRef.ofBuf, cast_eq]
  after_results_simp <;> rfl

/-- The region finds the first coordinates, padded. -/
theorem V_xs (c : Dev nD) : V m c main_v35 = padded (colX (events m c)) := by
  dsimp only [V, V0, hostOps0, hostOps0_1, hostOps0_2, hostOps0_3, hostOps0_4, hostOps0_5, hostOps0_6, hostOps0_7, hostOps0_8,
    hostOps0_9, List.flatten_cons, List.flatten_nil, List.append_nil, List.cons_append, List.nil_append]
  simp only [TRef.binary, TRef.nullary, TRef.ternary, TRef.unary, TRef.toBuf, TRef.ofBuf, cast_eq]
  after_results_simp <;> rfl

/-- The region finds the second coordinates, padded. -/
theorem V_ys (c : Dev nD) : V m c main_v36 = padded (colY (events m c)) := by
  dsimp only [V, V0, hostOps0, hostOps0_1, hostOps0_2, hostOps0_3, hostOps0_4, hostOps0_5, hostOps0_6, hostOps0_7, hostOps0_8,
    hostOps0_9, List.flatten_cons, List.flatten_nil, List.append_nil, List.cons_append, List.nil_append]
  simp only [TRef.binary, TRef.nullary, TRef.ternary, TRef.unary, TRef.toBuf, TRef.ofBuf, cast_eq]
  after_results_simp <;> rfl

/-- The region finds the polarities, padded. -/
theorem V_ps (c : Dev nD) : V m c main_v37 = padded (colP (events m c)) := by
  dsimp only [V, V0, hostOps0, hostOps0_1, hostOps0_2, hostOps0_3, hostOps0_4, hostOps0_5, hostOps0_6, hostOps0_7, hostOps0_8,
    hostOps0_9, List.flatten_cons, List.flatten_nil, List.append_nil, List.cons_append, List.nil_append]
  simp only [TRef.binary, TRef.nullary, TRef.ternary, TRef.unary, TRef.toBuf, TRef.ofBuf, cast_eq]
  after_results_simp <;> rfl

/-- The region finds the time slots as words, padded with zero words. -/
theorem V_slots (c : Dev nD) : V m c main_v38 =
    pad S8126464 ![0] ![126464] ![0] (fptosi 32 (slot (events m c)) : S8000000.Idx → BitVec 32) (id (constantI S_ 32 0#32))
      pads_S8000000_S8126464_01264640 h_S_ := by
  dsimp only [V, V0, hostOps0, hostOps0_1, hostOps0_2, hostOps0_3, hostOps0_4, hostOps0_5, hostOps0_6, hostOps0_7, hostOps0_8,
    hostOps0_9, List.flatten_cons, List.flatten_nil, List.append_nil, List.cons_append, List.nil_append]
  simp only [TRef.binary, TRef.nullary, TRef.ternary, TRef.unary, TRef.toBuf, TRef.ofBuf, cast_eq]
  after_results_simp <;> rfl

/-- The region finds the two scalars. -/
theorem V_scalars (c : Dev nD) : V m c main_v17 = scalars (events m c) := by
  dsimp only [V, V0, hostOps0, hostOps0_1, hostOps0_2, hostOps0_3, hostOps0_4, hostOps0_5, hostOps0_6, hostOps0_7, hostOps0_8,
    hostOps0_9, List.flatten_cons, List.flatten_nil, List.append_nil, List.cons_append, List.nil_append]
  simp only [TRef.binary, TRef.nullary, TRef.ternary, TRef.unary, TRef.toBuf, TRef.ofBuf, cast_eq]
  after_results <;> rfl

end Cert.KernelIdeal.Prefix
-- ==== Proof.Tail.lean ====
/- What the kernel's host operations after the region make of its three output arrays, and the run of the whole
   kernel, over the extended reals: the result is `stacked` of each event's word, weight and weight in time. -/
module

public import proofs.«01_k».proof.Proof.HostPrefix
public import Idealize.ShloMosaic.Lib.KernelVsHost

@[expose] public section

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo
open Cert.Hist Cert.KernelIdeal.Prefix Cert.KernelIdeal.Region

/-- The sums of the weights `W` over the cells: event `j` is counted at cell `L j`, a negative word counting from the
    end of the array, and a word outside the array nowhere. -/
def summed (L : S8000000.Idx → BitVec 32) (W : S8000000.Idx → Num) : S2457600.Idx → Num :=
  Host.scatterAdd scatter_S2457600_S8000000x1_S8000000_n_0_0_1
    (broadcastInDim S2457600 ![] bcast_S_S2457600 (constant S_ .f32 0x00000000#32))
    (broadcastInDim S8000000x1 ![0] bcast_S8000000_S8000000x1_0
      (select (cmpi .slt L (broadcastInDim S8000000 ![] bcast_S_S8000000 (constantI S_ 32 0#32)))
        (addi L (broadcastInDim S8000000 ![] bcast_S_S8000000 (constantI S_ 32 2457600#32))) L)) W

/-- One histogram as a slice of the stack. -/
def layer (h : S2457600.Idx → Num) : S4x2x1x256x1200.Idx → Num :=
  broadcastInDim S4x2x1x256x1200 ![0, 1, 3, 4] bcast_S4x2x256x1200_S4x2x1x256x1200_0_1_3_4
    (shapeCast S4x2x256x1200 h shapeCasts_S2457600_S4x2x256x1200)

/-- The two histograms, of the weights `W` and of the weights `WT`, stacked along the third axis and cast to the
    result's shape. -/
def stacked (L : S8000000.Idx → BitVec 32) (W WT : S8000000.Idx → Num) : S1x4096x30x40.Idx → Num :=
  shapeCast S1x4096x30x40
    (concatenate S4x2x2x256x1200 2 [⟨S4x2x1x256x1200, layer (summed L W)⟩, ⟨S4x2x1x256x1200, layer (summed L WT)⟩]
      concatenates_S4x2x1x256x1200_S4x2x1x256x1200_S4x2x2x256x1200_d2)
    shapeCasts_S4x2x2x256x1200_S1x4096x30x40

/-- The first 8000000 elements of an array. -/
def cut {α : Type} (v : S8126464.Idx → α) : S8000000.Idx → α :=
  extractStridedSlice S8000000 ![0] v slices_S8126464_S8000000_0

variable (m : (ℓ : Loc nD τ sig) → Buf (Elt Ideal) ℓ)

theorem arr_inj : Function.Injective (Pipeline.arrRef spec0) := by decide

set_option maxHeartbeats 4000000 in
/-- After the host operations that follow the region, the result array holds `stacked` of the region's three output
    arrays, cut to the events. -/
theorem after_result (c : Dev nD) : Pipeline.afterTail₀ cfgs (dats m) 0 (V0 m) [hostOps1] c main_v64 =
    stacked (cut (words m c)) (cut (weights m c)) (cut (times m c)) := by
  have h6 := (Pipeline.withArrays_arr spec0 arr_inj c (V0 m c) (fun w => (dats m 0 c).arrAt w cfg0.N) 6).trans (word_arr m c)
  have h7 := (Pipeline.withArrays_arr spec0 arr_inj c (V0 m c) (fun w => (dats m 0 c).arrAt w cfg0.N) 7).trans (weight_arr m c)
  have h8 := (Pipeline.withArrays_arr spec0 arr_inj c (V0 m c) (fun w => (dats m 0 c).arrAt w cfg0.N) 8).trans (time_arr m c)
  unfold Pipeline.afterTail₀
  generalize Pipeline.withArrays (cfgs 0).spec c (V0 m c) (fun w => (dats m 0 c).arrAt w (cfgs 0).N) = A at *
  have h6 : A (Proc.devRef .tc main_v39_0) = words m c := h6
  have h7 : A (Proc.devRef .tc main_v39_1) = weights m c := h7
  have h8 : A (Proc.devRef .tc main_v39_2) = times m c := h8
  show StableHlo.after ([hostOps1] : List (List (HloOp τ sig (Elt Ideal)))).flatten A (Proc.devRef .tc main_v64) = _
  dsimp only [hostOps1, List.flatten_cons, List.flatten_nil, List.append_nil, List.cons_append, List.nil_append]
  after_results
  rw [h6, h7, h8]
  rfl

/-- The index of an event in the padded arrays. -/
def inPadded (j : S8000000.Idx) : S8126464.Idx := fun a =>
  ⟨(j 0).val, by fin_cases a; exact (j 0).isLt.trans (by decide)⟩

/-- The cut reads the event's own index. -/
theorem cut_apply {α : Type} (v : S8126464.Idx → α) (j : S8000000.Idx) : cut v j = v (inPadded j) := by
  unfold cut
  refine extractStridedSlice_apply (s := S8126464) ![0] v slices_S8126464_S8000000_0 j (inPadded j) fun a => ?_
  fin_cases a; exact (Nat.zero_add _).symm

/-- At an event's own index a padded array reads the array that was padded. -/
theorem pad_inPadded {α : Type} (v : S8000000.Idx → α) (z : S_.Idx → α) (j : S8000000.Idx) :
    pad S8126464 ![0] ![126464] ![0] v z pads_S8000000_S8126464_01264640 h_S_ (inPadded j) = v j :=
  pad_apply_of_inside ![0] ![126464] ![0] v z pads_S8000000_S8126464_01264640 h_S_ (inPadded j) j fun a => by
    fin_cases a
    show (j 0).val = 0 + (j 0).val * (0 + 1)
    omega

/-- Each event's word. -/
def eventWord (x : Events) : S8000000.Idx → BitVec 32 := fun j =>
  wordK (FloatOps.fptosi 32 (slot x j)) (colP x j) (colX x j) (colY x j)
/-- Each event's weight. -/
def eventWeight (x : Events) : S8000000.Idx → Num := fun j => weightK (colP x j)
/-- Each event's weight in time. -/
def eventTime (x : Events) : S8000000.Idx → Num := fun j => timeK (colT x j) (scalars x at0) (scalars x at1)

/-- The region's words, cut to the events, are the events' words. -/
theorem cut_words (c : Dev nD) : cut (words m c) = eventWord (events m c) := by
  funext j
  rw [cut_apply]
  unfold words
  rw [V_slots, V_ps, V_xs, V_ys]
  unfold padded
  rw [pad_inPadded, pad_inPadded, pad_inPadded, pad_inPadded]
  rfl

/-- The region's weights, cut to the events, are the events' weights. -/
theorem cut_weights (c : Dev nD) : cut (weights m c) = eventWeight (events m c) := by
  funext j
  rw [cut_apply]
  unfold weights
  rw [V_ps]
  unfold padded
  rw [pad_inPadded]
  rfl

/-- The region's weights in time, cut to the events, are the events' weights in time. -/
theorem cut_times (c : Dev nD) : cut (times m c) = eventTime (events m c) := by
  funext j
  rw [cut_apply]
  unfold times first scale
  rw [V_times, V_scalars]
  unfold padded
  rw [pad_inPadded]
  rfl

/-- The kernel's result as a function of the events. -/
def result (x : Events) : S1x4096x30x40.Idx → Num := stacked (eventWord x) (eventWeight x) (eventTime x)

/-- Every fair execution of the kernel ends with the result array at `result` of the events. -/
theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = result (events m c) :=
  (θ_run _ _ _).mono (fun r h c => by
    have h64 := (h c).2 main_v64 (Pipeline.mem_restRefs_of main_v64 (by decide) (by decide))
    refine h64.trans ((after_result m c).trans ?_)
    rw [cut_words, cut_weights, cut_times]
    rfl) (run_main m ρ)

/-- THE KERNEL'S RUN, over the extended reals: every fair execution ends with the result array at `result` of the
    events and the events as launched. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = result (events m c)
      ∧ r.2.mem ((c.tc : Thread nD τ).loc main_arg0) = m ((c.tc : Thread nD τ).loc main_arg0) :=
  (θ_run _ _ _).mono (fun _ h c => ⟨h.1 c, h.2 c⟩) (θ_run_and (run_result m ρ) (unchanged m ρ))

end Cert.KernelIdeal.Tail
-- ==== Proof.Reference.lean ====
/- The reference's result, over the extended reals, is `stacked` of each event's word, weight and weight in time as the
   reference writes them (`res_eq`), and each of these three read at one event (`linear_apply`, `weight_apply`,
   `time_apply`). -/
module

public import proofs.«01_k».proof.Proof.Tail
public import proofs.«01_k».proof.Proof.Gen.ReferenceIdeal.Run
public import Idealize.ShloMosaic.Lib.IdealHost

@[expose] public section

set_option maxRecDepth 16384

noncomputable section

namespace Cert.ReferenceIdeal.Meaning

open Cert.ReferenceIdeal Cert.ReferenceIdeal.Gen Idealize.ShloMosaic Idealize.ShloMosaic.TcCoe Idealize.SL.Sem
open Cert.Hist Cert.KernelIdeal.Prefix Cert.KernelIdeal.Tail

/-- A number at every event. -/
abbrev every (b : BitVec 32) : S8000000.Idx → Num := broadcastInDim S8000000 ![] bcast_S_S8000000 (constant S_ .f32 b)

/-- The truncated remainder of a column by a number. -/
def remOf (v : S8000000.Idx → Num) (b : BitVec 32) : S8000000.Idx → Num :=
  Host.remf v (broadcastInDim S8000000 ![] bcast_S_S8000000 (id (constant S_ .f32 b)))

/-- The remainder of a column by a number, with the number's sign. -/
def modOf (v : S8000000.Idx → Num) (b : BitVec 32) : S8000000.Idx → Num :=
  select (andi (cmpi .ne (cmpf .olt (remOf v b) (every 0x00000000#32))
        (broadcastInDim S8000000 ![] bcast_S_S8000000
          (cmpf .olt (id (constant S_ .f32 b) : S_.Idx → Num) (constant S_ .f32 0x00000000#32))))
      (cmpf .une (remOf v b) (every 0x00000000#32)))
    (addf (remOf v b) (broadcastInDim S8000000 ![] bcast_S_S8000000 (id (constant S_ .f32 b)))) (remOf v b)

/-- The events' tokens. -/
def token (x : Events) : S8000000.Idx → Num :=
  addf (Host.floor (modOf (colX x) 0x417F9A02#32)) (mulf (Host.floor (modOf (colY x) 0x417F77E0#32)) (every 0x41800000#32))

/-- The events' positions. -/
def position (x : Events) : S8000000.Idx → Num :=
  addf (Host.floor (Host.divf (colX x) (every 0x417F9A02#32)))
    (mulf (Host.floor (Host.divf (colY x) (every 0x417F77E0#32))) (every 0x42200000#32))

/-- One value an event, as a row. -/
def row (v : S8000000.Idx → Num) : S1x8000000.Idx → Num := broadcastInDim S1x8000000 ![1] bcast_S8000000_S1x8000000_1 v

/-- The four coordinates of each event in the histogram: time slot, polarity, token and position. -/
def coords (x : Events) : S4x8000000.Idx → Num :=
  concatenate S4x8000000 0 [⟨S1x8000000, row (slot x)⟩, ⟨S1x8000000, row (colP x)⟩, ⟨S1x8000000, row (token x)⟩,
      ⟨S1x8000000, row (position x)⟩]
    concatenates_S1x8000000_S1x8000000_S1x8000000_S1x8000000_S4x8000000_d0

/-- A table of four words, one for each coordinate, at every event. -/
def table (f : Fin 4 → BitVec 32) : S4x8000000.Idx → BitVec 32 :=
  broadcastInDim S4x8000000 ![0, 1] bcast_S4x1_S4x8000000_0_1 (shapeCast S4x1 (fun i => f (S4.rowMajor i)) shapeCasts_S4_S4x1)

/-- The four coordinates as words, each clipped between zero and its bound and multiplied by its stride. -/
def terms (x : Events) : S4x8000000.Idx → BitVec 32 :=
  muli (table lit1) (minsi (maxsi (fptosi 32 (coords x)) (broadcastInDim S4x8000000 ![] bcast_S_S4x8000000 (constantI S_ 32 0#32)))
    (table lit0))

/-- The events' words: the sum of the four terms, not less than zero. -/
def linear (x : Events) : S8000000.Idx → BitVec 32 :=
  maxsi (broadcastInDim S8000000 ![] bcast_S_S8000000 (id (constantI S_ 32 0#32)))
    (Host.reduce IntOp.addi (terms x) (constantI S_ 32 0#32) reducesTo_S4x8000000_S8000000_d0 h_S_)

/-- The events' weights. -/
def weight (x : Events) : S8000000.Idx → Num := uitofp .f32 (cmpf .une (colP x) (every 0x40000000#32))

/-- The first event's time. -/
def fst (x : Events) : S_.Idx → Num := shapeCast S_ (extractStridedSlice S1x1 ![0, 0] x slices_S8000000x4_S1x1_0_0) shapeCasts_S1x1_S_
/-- The last event's time. -/
def lst (x : Events) : S_.Idx → Num :=
  shapeCast S_ (extractStridedSlice S1x1 ![7999999, 0] x slices_S8000000x4_S1x1_7999999_0) shapeCasts_S1x1_S_

/-- The divisor of the time weights: the last time less the first, and 0.0001. -/
def span (x : Events) : S_.Idx → Num := addf (subf (lst x) (fst x)) (constant S_ .f32 0x38D1B717#32)

/-- The events' weights in time. -/
def time (x : Events) : S8000000.Idx → Num :=
  Host.divf (subf (colT x) (broadcastInDim S8000000 ![] bcast_S_S8000000 (fst x)))
    (broadcastInDim S8000000 ![] bcast_S_S8000000 (span x))

variable (m : (ℓ : Loc nD τ sig) → Buf (Elt Ideal) ℓ)

/-- The reference's result, by the names above. -/
theorem res_eq (c : Dev nD) : Value.res_main_v100 m c =
    stacked (linear (m ((c.tc : Thread nD τ).loc main_arg0))) (weight (m ((c.tc : Thread nD τ).loc main_arg0)))
      (time (m ((c.tc : Thread nD τ).loc main_arg0))) := rfl

/-! ## At one event -/

/-- Two bits differ exactly when their exclusive or is set. -/
theorem cmpi_ne_bit (a b : BitVec 1) : IntOp.cmpi .ne a b = IntOp.xori a b := by
  revert a b; decide

/-- The reference's remainder at one event is the kernel's. -/
theorem modOf_apply (v : S8000000.Idx → Num) (b : BitVec 32) (j : S8000000.Idx) : modOf v b j = modK (v j) (lit b) := by
  unfold modK
  rw [← cmpi_ne_bit]
  rfl

/-- The reference's token at one event is the kernel's. -/
theorem token_apply (x : Events) (j : S8000000.Idx) : token x j = tokK (colX x j) (colY x j) := by
  unfold tokK
  rw [← modOf_apply, ← modOf_apply]
  rfl

/-- The reference's position at one event is the kernel's. -/
theorem position_apply (x : Events) (j : S8000000.Idx) : position x j = posK (colX x j) (colY x j) := rfl

/-- The reference's weight at one event is the kernel's: the bit as a number, whether widened to a word first or not. -/
theorem weight_apply (x : Events) (j : S8000000.Idx) : weight x j = weightK (colP x j) := by
  have hb : ∀ b : BitVec 1, (FloatOps.uitofp .f32 b : Num) = FloatOps.sitofp .f32 (b.setWidth 32) := by
    intro b
    show (((b.toNat : ℝ) : EReal)) = ((((b.setWidth 32).toInt : ℤ) : ℝ) : EReal)
    have : ((b.setWidth 32).toInt : ℤ) = (b.toNat : ℤ) := by revert b; decide
    rw [this]; simp
  exact hb _

/-- The index of an event's coordinate in the table of coordinates. -/
def coordIx (k : Fin 4) (j : S8000000.Idx) : S4x8000000.Idx := ValueIdx.ix2 k (j 0)

/-- A row read at an event. -/
theorem row_apply (v : S8000000.Idx → Num) (j : S8000000.Idx) : row v (ValueIdx.ix2 0 (j 0)) = v j := by
  unfold row
  refine broadcastInDim_apply (s := S8000000) (t := S1x8000000) ![1] bcast_S8000000_S1x8000000_1 v _ j fun a => ?_
  fin_cases a
  rfl

/-- A table of four words read at an event's coordinate `k` is its `k`-th word. -/
theorem table_apply (f : Fin 4 → BitVec 32) (k : Fin 4) (j : S8000000.Idx) : table f (coordIx k j) = f k := by
  unfold table
  refine (broadcastInDim_apply (s := S4x1) (t := S4x8000000) ![0, 1] bcast_S4x1_S4x8000000_0_1 _ _ (ValueIdx.ix2 k 0) fun a => ?_).trans ?_
  · fin_cases a <;> rfl
  · refine (shapeCast_apply (s := S4) (t := S4x1) _ shapeCasts_S4_S4x1 _ (ValueIdx.ix1 k) ?_).trans ?_
    · rw [Shape.rowMajor_val_one, Shape.rowMajor_val_two]
      show k.val = k.val * 1 + 0
      omega
    · refine congrArg f (Fin.ext ?_)
      rw [Shape.rowMajor_val_one]

/-- The time slot is the first coordinate. -/
theorem coords_slot (x : Events) (j : S8000000.Idx) : coords x (coordIx 0 j) = slot x j := by
  unfold coords
  refine (concatenate_apply_piece (t := S4x8000000) 0 _ _ (coordIx 0 j) 0 (Nat.lt_of_sub_eq_succ rfl) S1x8000000 _ rfl rfl 0 rfl
    (ValueIdx.ix2 0 (j 0)) (fun b hb => ?_) rfl).trans (row_apply _ j)
  fin_cases b
  · exact absurd rfl hb
  · rfl

/-- The polarity is the second coordinate. -/
theorem coords_polarity (x : Events) (j : S8000000.Idx) : coords x (coordIx 1 j) = colP x j := by
  unfold coords
  refine (concatenate_apply_piece (t := S4x8000000) 0 _ _ (coordIx 1 j) 1 (Nat.lt_of_sub_eq_succ rfl) S1x8000000 _ rfl rfl 1 rfl
    (ValueIdx.ix2 0 (j 0)) (fun b hb => ?_) rfl).trans (row_apply _ j)
  fin_cases b
  · exact absurd rfl hb
  · rfl

/-- The token is the third coordinate. -/
theorem coords_token (x : Events) (j : S8000000.Idx) : coords x (coordIx 2 j) = token x j := by
  unfold coords
  refine (concatenate_apply_piece (t := S4x8000000) 0 _ _ (coordIx 2 j) 2 (Nat.lt_of_sub_eq_succ rfl) S1x8000000 _ rfl rfl 2 rfl
    (ValueIdx.ix2 0 (j 0)) (fun b hb => ?_) rfl).trans (row_apply _ j)
  fin_cases b
  · exact absurd rfl hb
  · rfl

/-- The position is the fourth coordinate. -/
theorem coords_position (x : Events) (j : S8000000.Idx) : coords x (coordIx 3 j) = position x j := by
  unfold coords
  refine (concatenate_apply_piece (t := S4x8000000) 0 _ _ (coordIx 3 j) 3 (Nat.lt_of_sub_eq_succ rfl) S1x8000000 _ rfl rfl 3 rfl
    (ValueIdx.ix2 0 (j 0)) (fun b hb => ?_) rfl).trans (row_apply _ j)
  fin_cases b
  · exact absurd rfl hb
  · rfl

/-- A sum over four. -/
theorem fold_four (g : Fin 4 → BitVec 32) :
    (Finset.univ : Finset (Fin 4)).fold IntOp.addi 0#32 g = g 0 + (g 1 + (g 2 + (g 3 + 0#32))) := by
  simp only [Fin.univ_succ, Finset.fold_cons, Finset.fold_map, Finset.univ_unique, Finset.fold_singleton]
  rfl

/-- The indices that the sum over the coordinates meets at an event. -/
theorem lift_eq (h : S4x8000000.Reduces [0] S8000000) (j : S8000000.Idx) (k : Fin 4) : h.lift j k = coordIx k j := by
  funext a
  fin_cases a <;> rfl

/-- The reference's clipping of a word. -/
def clipR (hi v : BitVec 32) : BitVec 32 := IntOp.minsi (IntOp.maxsi v 0#32) hi

/-- One term of the reference's word at an event. -/
theorem terms_apply (x : Events) (k : Fin 4) (j : S8000000.Idx) :
    terms x (coordIx k j) = lit1 k * clipR (lit0 k) (FloatOps.fptosi 32 (coords x (coordIx k j))) := by
  show table lit1 (coordIx k j) * IntOp.minsi (IntOp.maxsi (FloatOps.fptosi 32 (coords x (coordIx k j))) 0#32) (table lit0 (coordIx k j)) = _
  rw [table_apply, table_apply]
  rfl

/-- The reference's word at an event: the sum of four clipped coordinates times their strides, not less than zero. -/
theorem linear_apply (x : Events) (j : S8000000.Idx) : linear x j =
    IntOp.maxsi 0#32 (614400#32 * clipR 4#32 (FloatOps.fptosi 32 (slot x j))
      + (307200#32 * clipR 2#32 (FloatOps.fptosi 32 (colP x j))
      + (1200#32 * clipR 256#32 (FloatOps.fptosi 32 (tokK (colX x j) (colY x j)))
      + (1#32 * clipR 1200#32 (FloatOps.fptosi 32 (posK (colX x j) (colY x j))) + 0#32)))) := by
  have hr : S4x8000000.Reduces [0] S8000000 := by decide
  show IntOp.maxsi 0#32 (Host.reduce IntOp.addi (terms x) (constantI S_ 32 0#32) reducesTo_S4x8000000_S8000000_d0 h_S_ j) = _
  rw [Host.reduce_eq_fold_single IntOp.addi (terms x) _ reducesTo_S4x8000000_S8000000_d0 hr h_S_ j]
  refine congrArg (IntOp.maxsi 0#32) ((fold_four (terms x ∘ hr.lift j)).trans ?_)
  show terms x (hr.lift j (0 : Fin 4)) + (terms x (hr.lift j (1 : Fin 4)) + (terms x (hr.lift j (2 : Fin 4)) + (terms x (hr.lift j (3 : Fin 4)) + 0#32))) = _
  rw [lift_eq, lift_eq, lift_eq, lift_eq, terms_apply, terms_apply, terms_apply, terms_apply, coords_slot, coords_polarity,
    coords_token, coords_position, token_apply, position_apply]
  rfl

end Cert.ReferenceIdeal.Meaning
-- ==== Proof.Equal.lean ====
/- The kernel's result and the reference's are one function of the events where the divisor of the time weights is not
   zero (`result_eq`): each event's word (`linear_eq`), weight (`weight_eq`) and weight in time (`time_eq`) are equal. -/
module

public import proofs.«01_k».proof.Proof.Reference
public import Idealize.ShloMosaic.Lib.SortNet.Extract

@[expose] public section

set_option maxRecDepth 16384

noncomputable section

namespace Cert.Equal

open Idealize.ShloMosaic
open Cert.Hist Cert.KernelIdeal.Prefix Cert.KernelIdeal.Region Cert.KernelIdeal.Tail Cert.ReferenceIdeal.Meaning

/-! ## The word -/

/-- Clipping a word reads it as an integer between zero and the bound. -/
theorem clip_toInt (hi v : BitVec 32) : (clip hi v).toInt = min hi.toInt (max 0 v.toInt) := by
  unfold clip
  rw [SortNet.toInt_minsi, SortNet.toInt_maxsi]
  rfl

/-- The reference's clipping is the kernel's: the order in which the least and the greatest are taken of two words
    does not matter. -/
theorem clipR_eq (hi v : BitVec 32) : clipR hi v = clip hi v := by
  apply BitVec.eq_of_toInt_eq
  rw [clip_toInt]
  unfold clipR
  rw [SortNet.toInt_minsi, SortNet.toInt_maxsi, min_comm, max_comm]
  rfl

/-- A word clipped below a bound that is not negative is, as a natural number, at most the bound. -/
theorem clip_le (hi v : BitVec 32) (h : 0 ≤ hi.toInt) : (clip hi v).toNat ≤ hi.toInt.toNat := by
  have e := clip_toInt hi v
  have h0 : 0 ≤ (clip hi v).toInt := by omega
  have h1 : (clip hi v).toInt ≤ hi.toInt := by omega
  have := BitVec.toInt_eq_toNat_cond (clip hi v)
  have := (clip hi v).isLt
  split at * <;> omega

/-- A word whose top bit is clear is not less than zero. -/
theorem maxsi_self (s : BitVec 32) (h : s.toNat < 2 ^ 31) : IntOp.maxsi 0#32 s = s := by
  apply BitVec.eq_of_toInt_eq
  have e : s.toInt = s.toNat := BitVec.toInt_eq_toNat_of_lt (by omega)
  rw [SortNet.toInt_maxsi, e]
  exact max_eq_right (Int.natCast_nonneg _)

/-- Four coordinates within their bounds give a word below 2³¹, so the reference's last step keeps the word, and the
    order of the additions does not matter. -/
theorem word_eq (a b c d : BitVec 32) (ha : a.toNat ≤ 4) (hb : b.toNat ≤ 2) (hc : c.toNat ≤ 256) (hd : d.toNat ≤ 1200) :
    IntOp.maxsi 0#32 (614400#32 * a + (307200#32 * b + (1200#32 * c + (1#32 * d + 0#32))))
      = a * 614400#32 + b * 307200#32 + c * 1200#32 + d := by
  have e : a * 614400#32 + b * 307200#32 + c * 1200#32 + d
      = 614400#32 * a + (307200#32 * b + (1200#32 * c + (1#32 * d + 0#32))) := by
    rw [BitVec.add_zero, BitVec.one_mul]; ac_rfl
  rw [e]
  apply maxsi_self
  simp only [BitVec.toNat_add, BitVec.toNat_mul, BitVec.toNat_ofNat, Nat.reducePow, Nat.reduceMod]
  refine lt_of_le_of_lt (Nat.mod_le _ _) ?_
  rw [Nat.mod_eq_of_lt (show 614400 * a.toNat < 4294967296 by omega),
    Nat.mod_eq_of_lt (show 307200 * b.toNat < 4294967296 by omega),
    Nat.mod_eq_of_lt (show 1200 * c.toNat < 4294967296 by omega),
    Nat.mod_eq_of_lt (show 1 * d.toNat < 4294967296 by omega),
    Nat.mod_eq_of_lt (show 1 * d.toNat + 0 < 4294967296 by omega),
    Nat.mod_eq_of_lt (show 1200 * c.toNat + (1 * d.toNat + 0) < 4294967296 by omega),
    Nat.mod_eq_of_lt (show 307200 * b.toNat + (1200 * c.toNat + (1 * d.toNat + 0)) < 4294967296 by omega)]
  omega

/-- Each event is counted at one word by the kernel and by the reference. -/
theorem linear_eq (x : Events) : linear x = eventWord x := by
  funext j
  rw [linear_apply, clipR_eq, clipR_eq, clipR_eq, clipR_eq]
  exact word_eq _ _ _ _ (clip_le 4#32 _ (by decide)) (clip_le 2#32 _ (by decide)) (clip_le 256#32 _ (by decide))
    (clip_le 1200#32 _ (by decide))

/-! ## The weights -/

/-- Each event has one weight. -/
theorem weight_eq (x : Events) : weight x = eventWeight x := funext fun j => weight_apply x j

/-- The index of the time of event `n`. -/
def timeIx (n : Fin 8000000) : Cert.KernelIdeal.S8000000x4.Idx := ValueIdx.ix2 n 0

/-- The reference's first time is the first event's. -/
theorem fst_apply (x : Events) (i : Cert.KernelIdeal.S_.Idx) : fst x i = x (timeIx 0) := by
  unfold fst
  refine (shapeCast_apply (s := Cert.ReferenceIdeal.S1x1) (t := Cert.ReferenceIdeal.S_) _ _ i (ValueIdx.ix2 0 0) ?_).trans ?_
  · rw [Shape.rowMajor_val_two]
    have := (Cert.ReferenceIdeal.S_.rowMajor i).isLt
    have hn : Cert.ReferenceIdeal.S_.numel = 1 := by decide
    show 0 * 1 + 0 = _
    omega
  · refine extractStridedSlice_apply (s := Cert.ReferenceIdeal.S8000000x4) (t := Cert.ReferenceIdeal.S1x1) ![0, 0] x _ _ _ fun a => ?_
    fin_cases a <;> rfl

/-- The reference's last time is the last event's. -/
theorem lst_apply (x : Events) (i : Cert.KernelIdeal.S_.Idx) : lst x i = x (timeIx 7999999) := by
  unfold lst
  refine (shapeCast_apply (s := Cert.ReferenceIdeal.S1x1) (t := Cert.ReferenceIdeal.S_) _ _ i (ValueIdx.ix2 0 0) ?_).trans ?_
  · rw [Shape.rowMajor_val_two]
    have := (Cert.ReferenceIdeal.S_.rowMajor i).isLt
    have hn : Cert.ReferenceIdeal.S_.numel = 1 := by decide
    show 0 * 1 + 0 = _
    omega
  · refine extractStridedSlice_apply (s := Cert.ReferenceIdeal.S8000000x4) (t := Cert.ReferenceIdeal.S1x1) ![7999999, 0] x _ _ _ fun a => ?_
    fin_cases a <;> rfl

/-- The column of times read at an event. -/
theorem colT_apply (x : Events) (n : Fin 8000000) : colT x (ValueIdx.ix1 n) = x (timeIx n) := by
  unfold colT
  refine (shapeCast_apply (s := Cert.KernelIdeal.S8000000x1) (t := Cert.KernelIdeal.S8000000) _ _ _ (ValueIdx.ix2 n 0) ?_).trans ?_
  · rw [Shape.rowMajor_val_two, Shape.rowMajor_val_one]
    show n.val * 1 + 0 = n.val
    omega
  · refine extractStridedSlice_apply (s := Cert.KernelIdeal.S8000000x4) (t := Cert.KernelIdeal.S8000000x1) ![0, 0] x _ _ _ fun a => ?_
    fin_cases a
    · exact (Nat.zero_add _).symm
    · rfl

/-- The kernel's first time is the first event's. -/
theorem start_apply (x : Events) (i : Cert.KernelIdeal.S_.Idx) : start x i = x (timeIx 0) := by
  unfold start
  refine (shapeCast_apply (s := Cert.KernelIdeal.S1) (t := Cert.KernelIdeal.S_) _ _ i (ValueIdx.ix1 0) ?_).trans
    ((extractStridedSlice_apply (s := Cert.KernelIdeal.S8000000) (t := Cert.KernelIdeal.S1) ![0] _ _ _ (ValueIdx.ix1 0) fun a => ?_).trans
      (colT_apply x 0))
  · rw [Shape.rowMajor_val_one]
    have := (Cert.KernelIdeal.S_.rowMajor i).isLt
    have hn : Cert.KernelIdeal.S_.numel = 1 := by decide
    show 0 = _
    omega
  · fin_cases a; rfl

/-- The kernel's last time is the last event's. -/
theorem stop_apply (x : Events) (i : Cert.KernelIdeal.S_.Idx) : stop x i = x (timeIx 7999999) := by
  unfold stop
  refine (shapeCast_apply (s := Cert.KernelIdeal.S1) (t := Cert.KernelIdeal.S_) _ _ i (ValueIdx.ix1 0) ?_).trans
    ((extractStridedSlice_apply (s := Cert.KernelIdeal.S8000000) (t := Cert.KernelIdeal.S1) ![7999999] _ _ _ (ValueIdx.ix1 7999999) fun a => ?_).trans
      (colT_apply x 7999999))
  · rw [Shape.rowMajor_val_one]
    have := (Cert.KernelIdeal.S_.rowMajor i).isLt
    have hn : Cert.KernelIdeal.S_.numel = 1 := by decide
    show 0 = _
    omega
  · fin_cases a; rfl

/-- The divisor of the time weights, from the events: the last time less the first, and 0.0001. -/
def divisor (x : Events) : Num := FloatOps.addf (FloatOps.subf (x (timeIx 7999999)) (x (timeIx 0))) (lit 0x38D1B717#32)

/-- The reference's divisor is `divisor`. -/
theorem span_apply (x : Events) (i : Cert.KernelIdeal.S_.Idx) : span x i = divisor x := by
  show FloatOps.addf (FloatOps.subf (lst x i) (fst x i)) (lit 0x38D1B717#32) = _
  rw [lst_apply, fst_apply]
  rfl

/-- The first scalar handed to the region is the first time. -/
theorem scalars_at0 (x : Events) : scalars x at0 = x (timeIx 0) := by
  unfold scalars
  refine (concatenate_pair_apply_left (t := Cert.KernelIdeal.S2) (s₁ := Cert.KernelIdeal.S1) 0 _ _ _ at0 rfl (ValueIdx.ix1 0) fun b => ?_).trans
    ((ValueIdx.broadcastInDim_scalar_apply _ _ _).trans (start_apply x _))
  fin_cases b; rfl

/-- The second scalar handed to the region is the reciprocal of the divisor. -/
theorem scalars_at1 (x : Events) : scalars x at1 = FloatOps.hostDivf (lit 0x3F800000#32) (divisor x) := by
  unfold scalars
  refine (concatenate_pair_apply_right (t := Cert.KernelIdeal.S2) (s₁ := Cert.KernelIdeal.S1) (s₂ := Cert.KernelIdeal.S1) 0 _ _ _ at1 rfl rfl
    (ValueIdx.ix1 0) (fun b hb => ?_) rfl).trans ((ValueIdx.broadcastInDim_scalar_apply _ _ _).trans ?_)
  · fin_cases b; exact absurd rfl hb
  · show FloatOps.hostDivf (lit 0x3F800000#32) (FloatOps.addf (FloatOps.subf (stop x _) (start x _)) (lit 0x38D1B717#32)) = _
    rw [stop_apply, start_apply]
    rfl

/-- Where the divisor is not zero, multiplying by its reciprocal is dividing by it, at the infinities too. -/
theorem mul_recip (a d : Num) (hd : d ≠ (0 : EReal)) :
    FloatOps.mulf a (FloatOps.hostDivf (lit 0x3F800000#32) d) = FloatOps.hostDivf a d := by
  show (a : EReal) * Ideal.div (Ideal.ofBits .f32 0x3F800000#32) d = Ideal.div a d
  unfold Ideal.div
  rw [if_neg hd, if_neg hd, Ideal.ofBits_one_f32, one_mul]

/-- Each event has one weight in time, where the divisor is not zero. -/
theorem time_eq (x : Events) (hd : divisor x ≠ (0 : EReal)) : time x = eventTime x := by
  funext j
  unfold eventTime timeK
  rw [scalars_at0, scalars_at1, mul_recip _ _ hd]
  show FloatOps.hostDivf (FloatOps.subf (colT x j) (broadcastInDim Cert.ReferenceIdeal.S8000000 ![] _ (fst x) j))
    (broadcastInDim Cert.ReferenceIdeal.S8000000 ![] _ (span x) j) = _
  rw [ValueIdx.broadcastInDim_scalar_apply, ValueIdx.broadcastInDim_scalar_apply, fst_apply, span_apply]

/-- The reference's result is the kernel's, where the divisor is not zero. -/
theorem result_eq (x : Events) (hd : divisor x ≠ (0 : EReal)) : stacked (linear x) (weight x) (time x) = result x := by
  rw [linear_eq, weight_eq, time_eq x hd]
  rfl

end Cert.Equal
-- ==== Proof.lean ====
module

public import proofs.«01_k».proof.Defs
public import proofs.«01_k».proof.Proof.FrameKernel
public import proofs.«01_k».proof.Proof.FrameKernelIdeal
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The side conditions of the precondition's operations. -/
theorem preFacts : Cert.Pre_span_not_zero.Facts := ⟨by decide, by decide, by decide⟩

instance : Cert.Pre_span_not_zero.Facts := preFacts

/-- Under the precondition the divisor of the time weights is not zero, on every device. -/
theorem divisor_ne_zero (m : (ℓ : Loc Cert.KernelIdeal.nD Cert.KernelIdeal.τ Cert.KernelIdeal.sig) → Buf (Elt Ideal) ℓ)
    (hp : Cert.Pre_KernelIdeal_span_not_zero m) (c : Dev Cert.KernelIdeal.nD) :
    Cert.Equal.divisor (Cert.KernelIdeal.Prefix.events m c) ≠ (0 : EReal) := by
  intro h0
  have e : Ideal.cmp .une (Cert.ReferenceIdeal.Meaning.span (Cert.KernelIdeal.Prefix.events m c) ValueIdx.ix0)
      (Ideal.ofBits .f32 0x00000000#32) = 1#1 := congrFun (hp c) ValueIdx.ix0
  rw [Cert.Equal.span_apply, h0, Ideal.ofBits_zero_f32] at e
  simp [Ideal.cmp] at e

/-- The kernel's ideal counterpart and the reference end with one result, where the divisor is not zero. -/
theorem algebraic : Cert.algebraic_KernelIdeal_ReferenceIdeal_pre_span_not_zero := by
  intro m g m' g' hp hin
  refine ⟨fun c => Cert.KernelIdeal.Tail.result (Cert.KernelIdeal.Prefix.events m c), Cert.KernelIdeal.Tail.run m g,
    (θ_run _ _ _).mono (fun r h c => ⟨(h c).1.trans ?_, (h c).2⟩) (Cert.ReferenceIdeal.Value.run (F := Ideal) m' g')⟩
  rw [Cert.ReferenceIdeal.Meaning.res_eq, hin c]
  exact Cert.Equal.result_eq _ (divisor_ne_zero m hp c)

/-- The reference's frame: the events end as launched and every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Everything this certificate claims. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    algebraic⟩

end Cert.Proof

end
